-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_context [hPre_finite_context : Cert.Pre_finite_context.Facts] (m : (ℓ : Loc Cert.KernelIdeal.nD Cert.KernelIdeal.τ Cert.KernelIdeal.sig) → Buf (Elt Ideal) ℓ) : Prop :=
  ∀ c : Dev Cert.KernelIdeal.nD,
    (Cert.Pre_finite_context.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_context [hPre_finite_context : Cert.Pre_finite_context.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_context.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_context [hKernelIdeal : Cert.KernelIdeal.Facts] [hPre_finite_context : Cert.Pre_finite_context.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_context m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_context [hReferenceIdeal : Cert.ReferenceIdeal.Facts] [hPre_finite_context : Cert.Pre_finite_context.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_context m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_context [hKernelIdeal : Cert.KernelIdeal.Facts] [hReferenceIdeal : Cert.ReferenceIdeal.Facts] [hPre_finite_context : Cert.Pre_finite_context.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_context m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_context : Cert.Pre_finite_context.Facts),
    quiescent_Kernel (hKernel := hKernel)
    ∧ quiescent_KernelIdeal (hKernelIdeal := hKernelIdeal)
    ∧ quiescent_KernelIdeal_pre_finite_context (hKernelIdeal := hKernelIdeal) (hPre_finite_context := hPre_finite_context)
    ∧ quiescent_ReferenceIdeal (hReferenceIdeal := hReferenceIdeal)
    ∧ quiescent_ReferenceIdeal_pre_finite_context (hReferenceIdeal := hReferenceIdeal) (hPre_finite_context := hPre_finite_context)
    ∧ preserves_Kernel_KernelIdeal
    ∧ algebraic_KernelIdeal_ReferenceIdeal_pre_finite_context (hKernelIdeal := hKernelIdeal) (hReferenceIdeal := hReferenceIdeal) (hPre_finite_context := hPre_finite_context)
-- ==== Pre_finite_context.lean ====
abbrev S64x2048x256 : Shape := ⟨3, ![64, 2048, 256]⟩
abbrev S256x256 : Shape := ⟨2, ![256, 256]⟩
abbrev S256 : Shape := ⟨1, ![256]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel

variable [Facts]

def fn {F : FTy → Type} [FloatOps F] (main_arg0 : FVec F S64x2048x256 .f32) (main_arg1 : FVec F S256x256 .f32) (main_arg2 : FVec F S256 .f32) (main_arg3 : FVec F S256 .f32) : IVec S_ 1 :=
  let main_v0 : FVec F S256 .f32 := Host.absf main_arg3
  let main_cst : FVec F S_ .f32 := constant S_ .f32 0x7F800000#32
  let main_v1 : FVec F S256 .f32 := broadcastInDim S256 ![] bcast_S_S256 main_cst
  let main_v2 : IVec S256 1 := cmpf .olt main_v0 main_v1
  let main_c : IVec S_ 1 := constantI S_ 1 1#1
  let main_v3 : IVec S_ 1 := (fun x v => Host.reduce IntOp.andi x v reducesTo_S256_S_d0 h_S_) main_v2 main_c
  main_v3
-- ==== Kernel.lean ====
abbrev S64x2048x256 : Shape := ⟨3, ![64, 2048, 256]⟩
abbrev S256x256 : Shape := ⟨2, ![256, 256]⟩
abbrev S256 : Shape := ⟨1, ![256]⟩
abbrev S1x256 : Shape := ⟨2, ![1, 256]⟩
abbrev S64x1x256 : Shape := ⟨3, ![64, 1, 256]⟩
abbrev S8x2048x256 : Shape := ⟨3, ![8, 2048, 256]⟩
abbrev S8x1x256 : Shape := ⟨3, ![8, 1, 256]⟩
abbrev S1x2048x256 : Shape := ⟨3, ![1, 2048, 256]⟩
abbrev S2048x256 : Shape := ⟨2, ![2048, 256]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S1x1x256 : Shape := ⟨3, ![1, 1, 256]⟩
abbrev S1x64x256 : Shape := ⟨3, ![1, 64, 256]⟩

abbrev nBuf : Space → Nat
  | .hbm => 10
  | .vmem => 7
  | .smem => 0
  | _ => 0

abbrev bufTy : (tb : Table) → Fin (tcTables nBuf tb) → BufTy
  | .hbm, ⟨0, _⟩ => ⟨S64x2048x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256x256, .f32⟩
  | .hbm, ⟨5, _⟩ => ⟨S256x256, .bf16⟩
  | .hbm, ⟨6, _⟩ => ⟨S1x256, .f32⟩
  | .hbm, ⟨7, _⟩ => ⟨S1x256, .f32⟩
  | .hbm, ⟨8, _⟩ => ⟨S64x1x256, .f32⟩
  | .hbm, ⟨9, _⟩ => ⟨S1x64x256, .f32⟩
  | .local _ .vmem, ⟨0, _⟩ => ⟨S8x2048x256, .f32⟩
  | .local _ .vmem, ⟨1, _⟩ => ⟨S8x2048x256, .f32⟩
  | .local _ .vmem, ⟨2, _⟩ => ⟨S256x256, .bf16⟩
  | .local _ .vmem, ⟨3, _⟩ => ⟨S1x256, .f32⟩
  | .local _ .vmem, ⟨4, _⟩ => ⟨S1x256, .f32⟩
  | .local _ .vmem, ⟨5, _⟩ => ⟨S8x1x256, .f32⟩
  | .local _ .vmem, ⟨6, _⟩ => ⟨S8x1x256, .f32⟩
  | _, _ => ⟨S64x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S64x2048x256 : Shape := ⟨3, ![64, 2048, 256]⟩
abbrev S256x256 : Shape := ⟨2, ![256, 256]⟩
abbrev S256 : Shape := ⟨1, ![256]⟩
abbrev S1x1x256 : Shape := ⟨3, ![1, 1, 256]⟩
abbrev S64x2048 : Shape := ⟨2, ![64, 2048]⟩
abbrev S64x2048x1 : Shape := ⟨3, ![64, 2048, 1]⟩
abbrev S_ : Shape := ⟨0, ![]⟩
abbrev S64x1 : Shape := ⟨2, ![64, 1]⟩
abbrev S64x1x1 : Shape := ⟨3, ![64, 1, 1]⟩
abbrev S64x256 : Shape := ⟨2, ![64, 256]⟩
abbrev S1x64x256 : Shape := ⟨3, ![1, 64, 256]⟩

abbrev nBuf : Space → Nat
  | .hbm => 30
  | .vmem => 0
  | .smem => 0
  | _ => 0

abbrev bufTy : (tb : Table) → Fin (tcTables nBuf tb) → BufTy
  | .hbm, ⟨0, _⟩ => ⟨S64x2048x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S64x2048x256, .f32⟩
  | .hbm, ⟨5, _⟩ => ⟨S1x1x256, .f32⟩
  | .hbm, ⟨6, _⟩ => ⟨S64x2048x256, .f32⟩
  | .hbm, ⟨7, _⟩ => ⟨S64x2048x256, .f32⟩
  | .hbm, ⟨8, _⟩ => ⟨S64x2048x256, .f32⟩
  | .hbm, ⟨9, _⟩ => ⟨S64x2048, .f32⟩
  | .hbm, ⟨10, _⟩ => ⟨S64x2048x1, .f32⟩
  | .hbm, ⟨11, _⟩ => ⟨S_, .f32⟩
  | .hbm, ⟨12, _⟩ => ⟨S64x1, .f32⟩
  | .hbm, ⟨13, _⟩ => ⟨S_, .f32⟩
  | .hbm, ⟨14, _⟩ => ⟨S64x1, .f32⟩
  | .hbm, ⟨15, _⟩ => ⟨S64x1, .f32⟩
  | .hbm, ⟨16, _⟩ => ⟨S64x1x1, .f32⟩
  | .hbm, ⟨17, _⟩ => ⟨S64x2048x1, .f32⟩
  | .hbm, ⟨18, _⟩ => ⟨S64x2048x1, .f32⟩
  | .hbm, ⟨19, _⟩ => ⟨S64x2048x1, .f32⟩
  | .hbm, ⟨20, _⟩ => ⟨S_, .f32⟩
  | .hbm, ⟨21, _⟩ => ⟨S64x1, .f32⟩
  | .hbm, ⟨22, _⟩ => ⟨S64x1x1, .f32⟩
  | .hbm, ⟨23, _⟩ => ⟨S64x2048x1, .f32⟩
  | .hbm, ⟨24, _⟩ => ⟨S64x2048x1, .f32⟩
  | .hbm, ⟨25, _⟩ => ⟨S64x2048x256, .f32⟩
  | .hbm, ⟨26, _⟩ => ⟨S64x2048x256, .f32⟩
  | .hbm, ⟨27, _⟩ => ⟨S_, .f32⟩
  | .hbm, ⟨28, _⟩ => ⟨S64x256, .f32⟩
  | .hbm, ⟨29, _⟩ => ⟨S1x64x256, .f32⟩
  | _, _ => ⟨S64x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.Softmax.lean ====
/-
  The mathematics of the claim, over the extended reals and free of any program: attention pooling over a sequence,
  once with the weights normalised AFTER the weighted sum and no shift of the exponents (the kernel's way), once as
  the textbook's softmax, exponents shifted by their maximum and normalised before the weighted sum.
-/
module

public import Idealize.ShloMosaic.PureOps.Ideal
public import Mathlib.Tactic.FieldSimp
public import Mathlib.Tactic.Positivity

@[expose] public section

noncomputable section

namespace Cert.AttentionPooling

open Idealize.ShloMosaic

/-- The score of one position: the context vector against the hyperbolic tangent of the affine image of `x`. -/
def score {n k : ℕ} (x : Fin n → EReal) (w : Fin k → Fin n → EReal) (b c : Fin k → EReal) : EReal :=
  ∑ e, Ideal.tanh ((∑ d, x d * w e d) + b e) * c e

/-- Pooling with unshifted exponents, the one division last. -/
def pooled {n : ℕ} (z y : Fin n → EReal) : EReal :=
  Ideal.div (∑ s, y s * Ideal.exp (z s)) (∑ s, Ideal.exp (z s))

/-- Pooling by a softmax whose exponents are shifted by `M`. -/
def softmaxPooled {n : ℕ} (M : EReal) (z y : Fin n → EReal) : EReal :=
  ∑ s, Ideal.div (Ideal.exp (z s - M)) (∑ t, Ideal.exp (z t - M)) * y s

/-- The hyperbolic tangent of any extended real is a real number. -/
theorem tanh_real (v : EReal) : ∃ r : ℝ, Ideal.tanh v = (r : EReal) := by
  induction v using EReal.rec with
  | bot => exact ⟨-1, by simp⟩
  | top => exact ⟨1, by simp⟩
  | coe r => exact ⟨Real.tanh r, rfl⟩

/-- A finite sum of reals, taken over the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With a real context vector a score is real, whatever `x`, the weights and the bias are: the tangent is bounded. -/
theorem score_real {n k : ℕ} (x : Fin n → EReal) (w : Fin k → Fin n → EReal) (b c : Fin k → EReal)
    (hc : ∀ e, ∃ r : ℝ, c e = (r : EReal)) : ∃ r : ℝ, score x w b c = (r : EReal) := by
  choose g hg using hc
  choose t ht using fun e => tanh_real ((∑ d, x d * w e d) + b e)
  refine ⟨∑ e, t e * g e, ?_⟩
  rw [coe_sum]
  exact Finset.sum_congr rfl fun e _ => by rw [ht e, hg e, EReal.coe_mul]

/-- A positive real factor moves out of a sum of extended reals, infinite terms of both signs included. -/
theorem sum_mul_coe {ι : Type} (s : Finset ι) (f : ι → EReal) {r : ℝ} (hr : 0 < r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr.le) (EReal.coe_ne_top r) _ _

/-- The largest of finitely many real scores, at least one, folded from minus infinity, is real. -/
theorem fold_max_real {n : ℕ} (z : Fin (n + 1) → EReal) (hz : ∀ s, ∃ r : ℝ, z s = (r : EReal)) :
    ∃ r : ℝ, Finset.univ.fold max (⊥ : EReal) z = (r : EReal) := by
  have hne : Finset.univ.fold max (⊥ : EReal) z ≠ ⊥ := by
    intro h
    have h0 : z 0 ≤ Finset.univ.fold max (⊥ : EReal) z :=
      (Finset.le_fold_max _).mpr (Or.inr ⟨0, Finset.mem_univ _, le_rfl⟩)
    obtain ⟨r, hr⟩ := hz 0
    rw [h, hr] at h0
    exact absurd (le_bot_iff.mp h0) (EReal.coe_ne_bot r)
  have hnt : Finset.univ.fold max (⊥ : EReal) z ≠ ⊤ := by
    refine ne_of_lt ((Finset.fold_max_lt _).mpr ⟨bot_lt_top, fun s _ => ?_⟩)
    obtain ⟨r, hr⟩ := hz s
    rw [hr]; exact EReal.coe_lt_top r
  exact ⟨_, (EReal.coe_toReal hnt hne).symm⟩

/-- Division by a positive real is multiplication by its inverse. -/
theorem div_coe (x : EReal) {d : ℝ} (hd : 0 < d) : Ideal.div x (d : EReal) = x * ((d⁻¹ : ℝ) : EReal) := by
  unfold Ideal.div
  rw [if_neg (by exact_mod_cast hd.ne'), EReal.coe_inv]

/-- THE EQUATION: with real scores the two poolings agree for any real shift, the pooled values being arbitrary
    extended reals. Shifting every exponent scales numerator and denominator by one positive real, and division by a
    positive real distributes over the sum. -/
theorem pooled_eq_softmaxPooled {n : ℕ} (M : ℝ) (z y : Fin (n + 1) → EReal) (hz : ∀ s, ∃ r : ℝ, z s = (r : EReal)) :
    pooled z y = softmaxPooled (M : EReal) z y := by
  choose g hg using hz
  have hD : 0 < ∑ s, Real.exp (g s) := Finset.sum_pos (fun s _ => Real.exp_pos _) ⟨0, Finset.mem_univ _⟩
  have hD' : 0 < ∑ s, Real.exp (g s - M) := Finset.sum_pos (fun s _ => Real.exp_pos _) ⟨0, Finset.mem_univ _⟩
  have hscale : ∑ s, Real.exp (g s - M) = (∑ s, Real.exp (g s)) * Real.exp (-M) := by
    rw [Finset.sum_mul]
    exact Finset.sum_congr rfl fun s _ => by rw [← Real.exp_add, sub_eq_add_neg]
  have hden : (∑ s, Ideal.exp (z s)) = ((∑ s, Real.exp (g s) : ℝ) : EReal) := by
    rw [coe_sum]; exact Finset.sum_congr rfl fun s _ => by rw [hg s, Ideal.exp_coe]
  have hden' : (∑ s, Ideal.exp (z s - M)) = ((∑ s, Real.exp (g s - M) : ℝ) : EReal) := by
    rw [coe_sum]; exact Finset.sum_congr rfl fun s _ => by rw [hg s, ← EReal.coe_sub, Ideal.exp_coe]
  unfold pooled softmaxPooled
  rw [hden, hden']
  rw [div_coe _ hD, sum_mul_coe _ _ (inv_pos.mpr hD)]
  refine Finset.sum_congr rfl fun s _ => ?_
  rw [div_coe _ hD', hg s, ← EReal.coe_sub, Ideal.exp_coe, Ideal.exp_coe, mul_assoc, ← EReal.coe_mul, ← EReal.coe_mul,
    mul_comm]
  congr 2
  have hM : Real.exp (-M) ≠ 0 := (Real.exp_pos _).ne'
  rw [hscale, sub_eq_add_neg, Real.exp_add]
  field_simp

/-- The hypothesis is needed: where every score is `+∞` and the column is all ones the two poolings differ, `0` against
    `-∞`. -/
theorem pooled_ne_of_top (n : ℕ) :
    pooled (fun _ : Fin (n + 1) => (⊤ : EReal)) (fun _ => 1) ≠ softmaxPooled ⊤ (fun _ : Fin (n + 1) => (⊤ : EReal)) (fun _ => 1) := by
  have e1 : Ideal.exp (⊤ : EReal) = ⊤ := rfl
  have e2 : Ideal.exp ((⊤ : EReal) - ⊤) = 0 := by rw [EReal.sub_top]; rfl
  have hs : (∑ _s : Fin (n + 1), (⊤ : EReal)) = ⊤ := by
    rw [Finset.sum_const, Finset.card_univ, Fintype.card_fin, EReal.nsmul_eq_mul]
    exact EReal.mul_top_of_pos (by exact_mod_cast Nat.succ_pos n)
  have hb : (∑ _s : Fin (n + 1), (⊥ : EReal)) = ⊥ := by
    rw [Finset.sum_const, Finset.card_univ, Fintype.card_fin, EReal.nsmul_eq_mul]
    exact EReal.mul_bot_of_pos (by exact_mod_cast Nat.succ_pos n)
  unfold pooled softmaxPooled
  simp only [e1, e2, one_mul, mul_one, hs, Finset.sum_const_zero]
  have d1 : Ideal.div (⊤ : EReal) ⊤ = 0 := by simp [Ideal.div]
  have d2 : Ideal.div (0 : EReal) 0 = ⊥ := by simp [Ideal.div]
  rw [d1, d2, hb]
  exact EReal.zero_ne_bot

end Cert.AttentionPooling

end
-- ==== Proof.Row.lean ====
/-
  What one of the eight unrolled steps of the kernel's body computes, read at an index.
-/
module

public import proofs.«01_k».proof.Proof.Gen.KernelIdeal.Skeleton
public import proofs.«01_k».proof.Proof.Softmax
public import Idealize.ShloMosaic.Lib.Pointwise

@[expose] public section

set_option maxRecDepth 16384

noncomputable section

namespace Cert.KernelIdeal.Pooling

open Idealize.ShloMosaic Cert.KernelIdeal Cert.KernelIdeal.Gen Cert.AttentionPooling

/-- One step's payload at column `e`: the pooling of column `e` of the slab by the slab's scores. -/
theorem step_apply (x : Vec Ideal S1x2048x256 .f32) (w : Vec Ideal S256x256 .bf16) (b c : Vec Ideal S1x256 .f32) (e : Fin 256) :
    k0_pay2 (F := Ideal) x w b c (ix3 0 0 e)
      = pooled (fun s : Fin 2048 => score (fun d => x (ix3 0 s d)) (fun e d => w (ix2 d e)) (fun e => b (ix2 0 e)) (fun e => c (ix2 0 e)))
          (fun s => x (ix3 0 s e)) := by
  unfold pooled score
  pointwise [k0_pay2]

end Cert.KernelIdeal.Pooling

end
-- ==== Proof.Block.lean ====
/-
  What one grid point leaves in the output's staging buffer: eight rows, each the pooling of one batch entry of the
  point's block. The eight unrolled steps of the body are one payload at eight offsets.
-/
module

public import proofs.«01_k».proof.Proof.Gen.KernelIdeal.Frame
public import proofs.«01_k».proof.Proof.Row
public import Idealize.ShloMosaic.Lib.Pipeline.Value

@[expose] public section

set_option maxRecDepth 16384

noncomputable section

namespace Cert.KernelIdeal.Pooling

open Idealize.ShloMosaic Cert.KernelIdeal Cert.KernelIdeal.Gen Cert.AttentionPooling

section Steps

variable {F : FTy → Type} [FloatOps F]
variable (x : Vec F S1x2048x256 .f32) (w : Vec F S256x256 .bf16) (b c : Vec F S1x256 .f32)

/-- However the printed windows cut a step into payloads, together they are the first step's payload. -/
theorem step1 : k0_pay5 (k0_pay3 x) (k0_pay4 x w) b c = k0_pay2 x w b c := rfl
theorem step2 : k0_pay8 (k0_pay6 x) (k0_pay7 x w b c) = k0_pay2 x w b c := rfl
theorem step3 : k0_pay10 (k0_pay9 x w b c) = k0_pay2 x w b c := rfl
theorem step4 : k0_pay11 x w b c = k0_pay2 x w b c := rfl
theorem step5 : k0_pay14 (k0_pay12 x) (k0_pay13 x) w b c = k0_pay2 x w b c := rfl
theorem step6 : k0_pay18 (k0_pay15 x) (k0_pay16 x w b) (k0_pay17 c) = k0_pay2 x w b c := rfl
theorem step7 : k0_pay1 (k0_pay21 x w b c) (k0_pay22 x w b c) = k0_pay2 x w b c := rfl

end Steps

/-- The block a grid point leaves: entry `(g, 0, e)` pools column `e` of batch entry `g` of the input block. -/
def blockOf (x0 : Vec Ideal S8x2048x256 .f32) (x1 : Vec Ideal S256x256 .bf16) (x2 x3 : Vec Ideal S1x256 .f32) : Vec Ideal S8x1x256 .f32 :=
  fun j => pooled (fun s : Fin 2048 => score (fun d => x0 (ix3 (j 0) s d)) (fun e d => x1 (ix2 d e)) (fun e => x2 (ix2 0 e)) (fun e => x3 (ix2 0 e)))
    (fun s => x0 (ix3 (j 0) s (j 2)))

theorem zeros2 : (![0, 0] : Fin 2 → Nat) = fun _ => 0 := funext fun a => by fin_cases a <;> rfl

/-- The step at batch offset `g` stores row `g` of the block. -/
theorem piece (x0 : Vec Ideal S8x2048x256 .f32) (x1 : Vec Ideal S256x256 .bf16) (x2 x3 : Vec Ideal S1x256 .f32) (g : ℕ) (hg : g < 8)
    (hx : ∀ a, (![g, 0, 0] : Fin 3 → Nat) a + S1x2048x256.size a ≤ S8x2048x256.size a)
    (ho : ∀ a, (![g, 0, 0] : Fin 3 → Nat) a + S1x1x256.size a ≤ S8x1x256.size a) (y : S1x1x256.Idx) :
    k0_pay2 (F := Ideal) (View.ld x0 (Rect.unit (s := S8x2048x256) ![g, 0, 0] S1x2048x256.size hx)) (View.ld x1 r0_1) (View.ld x2 r0_2) (View.ld x3 r0_2) y
      = blockOf x0 x1 x2 x3 ((Rect.unit (s := S8x1x256) ![g, 0, 0] S1x1x256.size ho).emb y) := by
  have h1 : View.ld x1 r0_1 = x1 := View.ld_unit_zero zeros2 _ x1
  have h2 : View.ld x2 r0_2 = x2 := View.ld_unit_zero zeros2 _ x2
  have h3 : View.ld x3 r0_2 = x3 := View.ld_unit_zero zeros2 _ x3
  rw [h1, h2, h3]
  idx_vars y
  rw [Subsingleton.elim y0 0, Subsingleton.elim y1 0, step_apply]
  have e (s : Fin 2048) (d : Fin 256) : View.ld x0 (Rect.unit (s := S8x2048x256) ![g, 0, 0] S1x2048x256.size hx) (ix3 0 s d) = x0 (ix3 ⟨g, hg⟩ s d) := by
    refine congrArg x0 (funext fun a => Fin.ext ?_)
    match a with
    | ⟨0, _⟩ => show g + 1 * 0 = g; omega
    | ⟨1, _⟩ => show 0 + 1 * s.val = s.val; omega
    | ⟨2, _⟩ => show 0 + 1 * d.val = d.val; omega
  have e0 : (Rect.unit (s := S8x1x256) ![g, 0, 0] S1x1x256.size ho).emb (ix3 0 0 y2) = ix3 ⟨g, hg⟩ 0 y2 := by
    refine funext fun a => Fin.ext ?_
    match a with
    | ⟨0, _⟩ => show g + 1 * 0 = g; omega
    | ⟨1, _⟩ => show 0 + 1 * 0 = 0; omega
    | ⟨2, _⟩ => show 0 + 1 * y2.val = y2.val; omega
  rw [e0]
  simp only [e]
  rfl

/-- The staging buffer after the body: the eight stores tile it, and each is its row. -/
theorem out_eq (x0 : Vec Ideal S8x2048x256 .f32) (x1 : Vec Ideal S256x256 .bf16) (x2 x3 : Vec Ideal S1x256 .f32) :
    out0_4 x0 x1 x2 x3 = blockOf x0 x1 x2 x3 := by
  unfold out0_4
  rw [step1, step2, step3, step4, step5, step6, step7]
  funext y
  refine View.canon_apply_of_pieces (blockOf x0 x1 x2 x3) _ ?_ y (cover0_4 _ _ _ _ _ _ _ _ y)
  intro p hp
  simp only [List.mem_cons, List.not_mem_nil, or_false] at hp
  rcases hp with rfl | rfl | rfl | rfl | rfl | rfl | rfl | rfl
  · exact piece x0 x1 x2 x3 7 (by decide) (by decide) (by decide)
  · exact piece x0 x1 x2 x3 6 (by decide) (by decide) (by decide)
  · exact piece x0 x1 x2 x3 5 (by decide) (by decide) (by decide)
  · exact piece x0 x1 x2 x3 4 (by decide) (by decide) (by decide)
  · exact piece x0 x1 x2 x3 3 (by decide) (by decide) (by decide)
  · exact piece x0 x1 x2 x3 2 (by decide) (by decide) (by decide)
  · exact piece x0 x1 x2 x3 1 (by decide) (by decide) (by decide)
  · exact piece x0 x1 x2 x3 0 (by decide) (by decide) (by decide)

end Cert.KernelIdeal.Pooling

end
-- ==== Proof.Array.lean ====
/-
  The ideal kernel's result as one function of the argument arrays. Each grid point writes back its block of that
  function and the blocks tile the result; the host lines before the region transpose the weights and give the bias
  and the context vector a leading axis, and the one line after it reshapes the result.
-/
module

public import proofs.«01_k».proof.Proof.Block

@[expose] public section

set_option maxRecDepth 16384

noncomputable section

namespace Cert.KernelIdeal.Pooling

open Idealize.ShloMosaic Idealize.ShloMosaic.TcCoe Idealize.SL.Sem Cert.KernelIdeal Cert.KernelIdeal.Gen Cert.AttentionPooling
open Idealize.ShloMosaic.Pipeline (Dat)

variable (m : (ℓ : Loc nD τ sig) → Buf (Elt Ideal) ℓ) (ρ : Dev nD → PrngReg)

/-- The scores of batch entry `b`, from the argument arrays. -/
def scores (x : Vec Ideal S64x2048x256 .f32) (w : Vec Ideal S256x256 .f32) (b c : Vec Ideal S256 .f32) (i : Fin 64) (s : Fin 2048) : EReal :=
  score (fun d : Fin 256 => x (ix3 i s d)) (fun e d : Fin 256 => w (ix2 e d)) (fun e => b (ix1 e)) (fun e => c (ix1 e))

/-- The region's result array: entry `(i, 0, e)` pools column `e` of batch entry `i`. -/
def arrayOf (x : Vec Ideal S64x2048x256 .f32) (w : Vec Ideal S256x256 .f32) (b c : Vec Ideal S256 .f32) : Vec Ideal S64x1x256 .f32 :=
  fun j => pooled (scores x w b c (j 0)) (fun s : Fin 2048 => x (ix3 (j 0) s (j 2)))

/-- The program's result: the same entries, the batch the middle axis. -/
def resultOf (x : Vec Ideal S64x2048x256 .f32) (w : Vec Ideal S256x256 .f32) (b c : Vec Ideal S256 .f32) : Vec Ideal S1x64x256 .f32 :=
  fun j => pooled (scores x w b c (j 1)) (fun s : Fin 2048 => x (ix3 (j 1) s (j 2)))

/-! ## What the host lines before the region leave -/

/-- The weights as the region finds them: transposed, the conversion the identity. -/
theorem weights_apply (c : Dev nD) (d e : Fin 256) :
    V m c main_v1 (ix2 d e) = m ((c : Thread nD τ).loc main_arg1) (ix2 e d) := by
  have h : @Eq (FVec Ideal S256x256 .bf16) (V m c main_v1) (truncf (F := Ideal) .bf16 (transpose S256x256 [1, 0] (m ((c : Thread nD τ).loc main_arg1)) transposes_S256x256_S256x256_1_0) bitsLt_bf16_f32) := by
    show StableHlo.after hostOps0 _ (Proc.devRef .tc main_v1) = _
    after_results
  rw [h]
  pointwise

/-- The bias as the region finds it. -/
theorem bias_apply (c : Dev nD) (e : Fin 256) :
    V m c main_v2 (ix2 0 e) = m ((c : Thread nD τ).loc main_arg2) (ix1 e) := by
  have h : V m c main_v2 = broadcastInDim S1x256 ![1] bcast_S256_S1x256_1 (m ((c : Thread nD τ).loc main_arg2)) := by
    show StableHlo.after hostOps0 _ (Proc.devRef .tc main_v2) = _
    after_results
  rw [h]
  pointwise

/-- The context vector as the region finds it. -/
theorem context_apply (c : Dev nD) (e : Fin 256) :
    V m c main_v3 (ix2 0 e) = m ((c : Thread nD τ).loc main_arg3) (ix1 e) := by
  have h : V m c main_v3 = broadcastInDim S1x256 ![1] bcast_S256_S1x256_1 (m ((c : Thread nD τ).loc main_arg3)) := by
    show StableHlo.after hostOps0 _ (Proc.devRef .tc main_v3) = _
    after_results
  rw [h]
  pointwise

/-! ## The blocks -/

/-- The index maps in closed form: the batch axis advances with the point, every other axis stays at 0. -/
theorem index0 (t : Fin cfg0.N) : win0_0.index t 0 = t.val ∧ win0_0.index t 1 = 0 ∧ win0_0.index t 2 = 0 := by
  rcases fin_N0 t with rfl | rfl | rfl | rfl | rfl | rfl | rfl | rfl <;> decide +kernel
theorem index1 (t : Fin cfg0.N) : win0_1.index t 0 = 0 ∧ win0_1.index t 1 = 0 := by
  rcases fin_N0 t with rfl | rfl | rfl | rfl | rfl | rfl | rfl | rfl <;> decide +kernel
theorem index2 (t : Fin cfg0.N) : win0_2.index t 0 = 0 ∧ win0_2.index t 1 = 0 := by
  rcases fin_N0 t with rfl | rfl | rfl | rfl | rfl | rfl | rfl | rfl <;> decide +kernel
theorem index3 (t : Fin cfg0.N) : win0_3.index t 0 = 0 ∧ win0_3.index t 1 = 0 := by
  rcases fin_N0 t with rfl | rfl | rfl | rfl | rfl | rfl | rfl | rfl <;> decide +kernel
theorem index4 (t : Fin cfg0.N) : win0_4.index t 0 = t.val ∧ win0_4.index t 1 = 0 ∧ win0_4.index t 2 = 0 := by
  rcases fin_N0 t with rfl | rfl | rfl | rfl | rfl | rfl | rfl | rfl <;> decide +kernel

/-- Batch entry `g` of point `t`'s block is batch entry `8 t + g` of the array. -/
def batch (t : Fin cfg0.N) (g : Fin 8) : Fin 64 := ⟨t.val * 8 + g.val, by have := t.isLt; have h : cfg0.N = 8 := N_0; have := g.isLt; omega⟩

theorem iblk0_apply (c : Dev nD) (t : Fin cfg0.N) (g : Fin 8) (s : Fin 2048) (d : Fin 256) :
    iblk m c 0 t (ix3 g s d) = m ((c : Thread nD τ).loc main_arg0) (ix3 (batch t g) s d) := by
  refine (show _ = V m c main_arg0 _ from rfl).trans ?_
  rw [V_main_arg0]
  refine congrArg _ (funext fun a => Fin.ext ?_)
  obtain ⟨h0, h1, h2⟩ := index0 t
  match a with
  | ⟨0, _⟩ => show win0_0.index t 0 * 8 + 1 * g.val = t.val * 8 + g.val; rw [h0]; omega
  | ⟨1, _⟩ => show win0_0.index t 1 * 2048 + 1 * s.val = s.val; rw [h1]; omega
  | ⟨2, _⟩ => show win0_0.index t 2 * 256 + 1 * d.val = d.val; rw [h2]; omega

theorem iblk1_apply (c : Dev nD) (t : Fin cfg0.N) (d e : Fin 256) :
    iblk m c 1 t (ix2 d e) = m ((c : Thread nD τ).loc main_arg1) (ix2 e d) := by
  refine (show _ = V m c main_v1 _ from rfl).trans (Eq.trans (congrArg (V m c main_v1) ?_) (weights_apply m c d e))
  refine funext fun a => Fin.ext ?_
  obtain ⟨h0, h1⟩ := index1 t
  match a with
  | ⟨0, _⟩ => show win0_1.index t 0 * 256 + 1 * d.val = d.val; rw [h0]; omega
  | ⟨1, _⟩ => show win0_1.index t 1 * 256 + 1 * e.val = e.val; rw [h1]; omega

theorem iblk2_apply (c : Dev nD) (t : Fin cfg0.N) (e : Fin 256) :
    iblk m c 2 t (ix2 0 e) = m ((c : Thread nD τ).loc main_arg2) (ix1 e) := by
  refine (show _ = V m c main_v2 _ from rfl).trans (Eq.trans (congrArg (V m c main_v2) ?_) (bias_apply m c e))
  refine funext fun a => Fin.ext ?_
  obtain ⟨h0, h1⟩ := index2 t
  match a with
  | ⟨0, _⟩ => show win0_2.index t 0 * 1 + 1 * 0 = 0; rw [h0]
  | ⟨1, _⟩ => show win0_2.index t 1 * 256 + 1 * e.val = e.val; rw [h1]; omega

theorem iblk3_apply (c : Dev nD) (t : Fin cfg0.N) (e : Fin 256) :
    iblk m c 3 t (ix2 0 e) = m ((c : Thread nD τ).loc main_arg3) (ix1 e) := by
  refine (show _ = V m c main_v3 _ from rfl).trans (Eq.trans (congrArg (V m c main_v3) ?_) (context_apply m c e))
  refine funext fun a => Fin.ext ?_
  obtain ⟨h0, h1⟩ := index3 t
  match a with
  | ⟨0, _⟩ => show win0_3.index t 0 * 1 + 1 * 0 = 0; rw [h0]
  | ⟨1, _⟩ => show win0_3.index t 1 * 256 + 1 * e.val = e.val; rw [h1]; omega

/-! ## The result array -/

/-- The region's result array on device `c`, as a function of the launch memory. -/
abbrev array (c : Dev nD) : Buf (Elt Ideal) ((c : Thread nD τ).loc main_v4) :=
  arrayOf (m ((c : Thread nD τ).loc main_arg0)) (m ((c : Thread nD τ).loc main_arg1)) (m ((c : Thread nD τ).loc main_arg2)) (m ((c : Thread nD τ).loc main_arg3))

/-- What point `t` writes back is block `t` of the array. -/
theorem flushed_eq (c : Dev nD) (t : Fin cfg0.N) :
    (dats m 0 c).flushed 4 t = (win0_4.blk t).view.read (Elt Ideal) (array m c) := by
  show (cfg0.win 4).cut (grid0.coords t) ((dats m 0 c).after 4 t) = _
  rw [after0_4, out_eq]
  funext (j : S8x1x256.Idx)
  idx_vars j
  have e : (win0_4.rect t).emb (ix3 j0 j1 j2 : S8x1x256.Idx) = (ix3 (batch t j0) 0 j2 : S64x1x256.Idx) := by
    refine funext fun a => Fin.ext ?_
    obtain ⟨h0, h1, h2⟩ := index4 t
    have := j1.isLt
    match a with
    | ⟨0, _⟩ => show win0_4.index t 0 * 8 + 1 * j0.val = t.val * 8 + j0.val; rw [h0]; omega
    | ⟨1, _⟩ => show win0_4.index t 1 * 1 + 1 * j1.val = 0; rw [h1]; omega
    | ⟨2, _⟩ => show win0_4.index t 2 * 256 + 1 * j2.val = j2.val; rw [h2]; omega
  show blockOf (iblk m c 0 t) (iblk m c 1 t) (iblk m c 2 t) (iblk m c 3 t) (ix3 j0 j1 j2) = array m c ((win0_4.rect t).emb (ix3 j0 j1 j2 : S8x1x256.Idx))
  rw [e]
  show pooled (fun s : Fin 2048 => score (fun d : Fin 256 => iblk m c 0 t (ix3 j0 s d)) (fun e d : Fin 256 => iblk m c 1 t (ix2 d e))
      (fun e : Fin 256 => iblk m c 2 t (ix2 0 e)) (fun e : Fin 256 => iblk m c 3 t (ix2 0 e))) (fun s : Fin 2048 => iblk m c 0 t (ix3 j0 s j2)) = _
  simp only [iblk0_apply, iblk1_apply, iblk2_apply, iblk3_apply]
  rfl

/-- Point `t`'s block of the result array is its batch entries `8 t, …, 8 t + 7`. -/
theorem mem_blk (t : Fin cfg0.N) (i : S64x1x256.Idx) (h : t.val * 8 ≤ (i 0 : Nat) ∧ (i 0 : Nat) < t.val * 8 + 8) :
    i ∈ ((cfg0.win 4).blk t).view.set := by
  show i ∈ ((View.whole main_v4).slice (win0_4.rect t)).set
  rw [View.set_slice_whole, Rect.mem_set_unit]
  obtain ⟨h0, h1, h2⟩ := index4 t
  have b1 : (i 1 : Nat) < 1 := (i 1).isLt
  have b2 : (i 2 : Nat) < 256 := (i 2).isLt
  intro a
  match a with
  | ⟨0, _⟩ => show win0_4.index t 0 * 8 ≤ (i 0 : Nat) ∧ (i 0 : Nat) < win0_4.index t 0 * 8 + 8; rw [h0]; exact h
  | ⟨1, _⟩ => show win0_4.index t 1 * 1 ≤ (i 1 : Nat) ∧ (i 1 : Nat) < win0_4.index t 1 * 1 + 1; rw [h1]; omega
  | ⟨2, _⟩ => show win0_4.index t 2 * 256 ≤ (i 2 : Nat) ∧ (i 2 : Nat) < win0_4.index t 2 * 256 + 256; rw [h2]; omega

/-- The blocks written back tile the result array. -/
theorem cover (i : S64x1x256.Idx) : ∃ t : Fin cfg0.N, (cfg0.win 4).flush t = true ∧ i ∈ ((cfg0.win 4).blk t).view.set := by
  have hi : (i 0 : Nat) < 64 := (i 0).isLt
  have hN : cfg0.N = 8 := N_0
  refine ⟨⟨(i 0 : Nat) / 8, by omega⟩, flush0_4 _, mem_blk _ i ?_⟩
  dsimp only
  omega

/-- So the result array ends at the pooling, index by index. -/
theorem final (c : Dev nD) : (dats m 0 c).arrAt 4 cfg0.N = array m c :=
  (dats m 0 c).arrAt_eq_of_cover 4 (array m c) (fun t _ => flushed_eq m c t) cover

/-- The program's result on device `c`, as a function of the launch memory. -/
abbrev result (c : Dev nD) : Buf (Elt Ideal) ((c : Thread nD τ).loc main_v5) :=
  resultOf (m ((c : Thread nD τ).loc main_arg0)) (m ((c : Thread nD τ).loc main_arg1)) (m ((c : Thread nD τ).loc main_arg2)) (m ((c : Thread nD τ).loc main_arg3))

/-- The host line after the region moves the batch to the middle axis. -/
theorem reshape_array (x : Vec Ideal S64x2048x256 .f32) (w : Vec Ideal S256x256 .f32) (b c : Vec Ideal S256 .f32) :
    shapeCast S1x64x256 (arrayOf x w b c) shapeCasts_S64x1x256_S1x64x256 = resultOf x w b c := by
  funext j
  idx_vars j
  pointwise
  rfl

/-- The result buffer after the line that follows the region. -/
theorem tail_eq (c : Dev nD) : Pipeline.afterTail₀ cfgs (dats m) 0 (V0 m) [hostOps1] c main_v5 = result m c := by
  unfold Pipeline.afterTail₀
  show StableHlo.after hostOps1 _ (Proc.devRef .tc main_v5) = _
  after_results
  refine Eq.trans ?_ (reshape_array _ _ _ _)
  refine congrArg (fun v : Vec Ideal S64x1x256 .f32 => shapeCast S1x64x256 v shapeCasts_S64x1x256_S1x64x256) ?_
  exact (Pipeline.withArrays_arr spec0 (by decide) c (V0 m c) (fun w => (dats m 0 c).arrAt w cfg0.N) 4).trans (final m c)

/-- The run: the result buffer at the pooling of the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).2 main_v5 (Pipeline.mem_restRefs_of main_v5 (by decide) (by decide))).trans (tail_eq m c), h.2.1 c⟩)
    (θ_run_and (run_main m ρ) (frame m ρ))

end Cert.KernelIdeal.Pooling

end
-- ==== Proof.RefValue.lean ====
/-
  The reference's result at an index: the softmax over the sequence, exponents shifted by their maximum, weighting the
  columns of the batch entry.
-/
module

public import proofs.«01_k».proof.Proof.Gen.ReferenceIdeal.Run
public import proofs.«01_k».proof.Proof.Softmax
public import Idealize.ShloMosaic.Lib.Pointwise

@[expose] public section

set_option maxRecDepth 16384

noncomputable section

namespace Cert.ReferenceIdeal.Pooling

open Idealize.ShloMosaic Cert.ReferenceIdeal Cert.ReferenceIdeal.Gen Cert.AttentionPooling

variable {F : FTy → Type} [FloatOps F]

/-- The reference's scores, as its operations compute them. -/
def scoreTerm (x : FVec F S64x2048x256 .f32) (w : FVec F S256x256 .f32) (b c : FVec F S256 .f32) : FVec F S64x2048x1 .f32 :=
  broadcastInDim S64x2048x1 ![0, 1] bcast_S64x2048_S64x2048x1_0_1 (Host.dotGeneral dot_S64x2048x256_S256_S64x2048_2_0_01_n_n_n none (Host.tanh (addf (Host.dotGeneral dot_S64x2048x256_S256x256_S64x2048x256_2_1_01_0_n_n none x w) (broadcastInDim S64x2048x256 ![0, 1, 2] bcast_S1x1x256_S64x2048x256_0_1_2 (broadcastInDim S1x1x256 ![2] bcast_S256_S1x1x256_2 b)))) c)

/-- The maximum over the sequence, kept as the reference keeps it. -/
def maxTerm (z : FVec F S64x2048x1 .f32) : FVec F S64x1 .f32 :=
  maximumf (broadcastInDim S64x1 ![] bcast_S_S64x1 (constant S_ .f32 0xFF800000#32)) (Host.reduce FloatOps.maximumf z (constant S_ .f32 0xFF800000#32) reducesTo_S64x2048x1_S64x1_d1 h_S_)

/-- The shifted exponentials. -/
def expTerm (z : FVec F S64x2048x1 .f32) (M : FVec F S64x1 .f32) : FVec F S64x2048x1 .f32 :=
  Host.exp (subf z (broadcastInDim S64x2048x1 ![0, 1, 2] bcast_S64x1x1_S64x2048x1_0_1_2 (broadcastInDim S64x1x1 ![0, 2] bcast_S64x1_S64x1x1_0_2 M)))

/-- The weighted sum. -/
def poolTerm (p : FVec F S64x2048x1 .f32) (x : FVec F S64x2048x256 .f32) : FVec F S1x64x256 .f32 :=
  broadcastInDim S1x64x256 ![1, 2] bcast_S64x256_S1x64x256_1_2 (Host.reduceAdd (mulf (broadcastInDim S64x2048x256 ![0, 1, 2] bcast_S64x2048x1_S64x2048x256_0_1_2 (Host.divf p (broadcastInDim S64x2048x1 ![0, 1, 2] bcast_S64x1x1_S64x2048x1_0_1_2 (broadcastInDim S64x1x1 ![0, 2] bcast_S64x1_S64x1x1_0_2 (Host.reduceAdd p (constant S_ .f32 0x00000000#32) reducesTo_S64x2048x1_S64x1_d1 h_S_))))) x) (constant S_ .f32 0x00000000#32) reducesTo_S64x2048x256_S64x256_d1 h_S_)

/-- The reference's whole term. -/
def term (x : FVec F S64x2048x256 .f32) (w : FVec F S256x256 .f32) (b c : FVec F S256 .f32) : FVec F S1x64x256 .f32 :=
  poolTerm (expTerm (scoreTerm x w b c) (maxTerm (scoreTerm x w b c))) x

/-- The reference's score of position `s` of batch entry `i` is the shared formula of it. -/
theorem scoreTerm_apply (x : FVec Ideal S64x2048x256 .f32) (w : FVec Ideal S256x256 .f32) (b c : FVec Ideal S256 .f32) (i : Fin 64) (s : Fin 2048) :
    scoreTerm (F := Ideal) x w b c (ix3 i s 0)
      = score (fun d : Fin 256 => x (ix3 i s d)) (fun e d : Fin 256 => w (ix2 e d)) (fun e => b (ix1 e)) (fun e => c (ix1 e)) := by
  unfold score
  pointwise [scoreTerm]

/-- The reference's maximum is the maximum over the sequence. -/
theorem maxTerm_apply (z : FVec Ideal S64x2048x1 .f32) (i : Fin 64) :
    maxTerm (F := Ideal) z (ix2 i 0) = Finset.univ.fold max ⊥ (fun s : Fin 2048 => z (ix3 i s 0)) := by
  have hb : Ideal.ofBits .f32 0xFF800000#32 = ⊥ := by simp [Ideal.ofBits, Ideal.ieee]
  pointwise [maxTerm]
  rw [hb, max_eq_right bot_le]

/-- Each exponential is of the score less the maximum. -/
theorem expTerm_apply (z : FVec Ideal S64x2048x1 .f32) (M : FVec Ideal S64x1 .f32) (i : Fin 64) (s : Fin 2048) :
    expTerm (F := Ideal) z M (ix3 i s 0) = Ideal.exp (z (ix3 i s 0) - M (ix2 i 0)) := by
  pointwise [expTerm]

/-- The weighted sum, each weight divided by the weights' sum before it is applied. -/
theorem poolTerm_apply (p : FVec Ideal S64x2048x1 .f32) (x : FVec Ideal S64x2048x256 .f32) (i : Fin 64) (e : Fin 256) :
    poolTerm (F := Ideal) p x (ix3 0 i e)
      = ∑ s : Fin 2048, Ideal.div (p (ix3 i s 0)) (∑ t : Fin 2048, p (ix3 i t 0)) * x (ix3 i s e) := by
  pointwise [poolTerm]

/-- The reference's result at `(0, i, e)`: the softmax pooling of column `e` of batch entry `i`, the shift the maximum
    of that entry's scores. -/
theorem term_apply (x : FVec Ideal S64x2048x256 .f32) (w : FVec Ideal S256x256 .f32) (b c : FVec Ideal S256 .f32) (i : Fin 64) (e : Fin 256) :
    term (F := Ideal) x w b c (ix3 0 i e)
      = softmaxPooled
          (Finset.univ.fold max ⊥ fun s : Fin 2048 => score (fun d : Fin 256 => x (ix3 i s d)) (fun e d : Fin 256 => w (ix2 e d)) (fun e => b (ix1 e)) (fun e => c (ix1 e)))
          (fun s : Fin 2048 => score (fun d : Fin 256 => x (ix3 i s d)) (fun e d : Fin 256 => w (ix2 e d)) (fun e => b (ix1 e)) (fun e => c (ix1 e)))
          (fun s : Fin 2048 => x (ix3 i s e)) := by
  unfold term softmaxPooled
  simp only [poolTerm_apply, expTerm_apply, maxTerm_apply, scoreTerm_apply]

end Cert.ReferenceIdeal.Pooling

end
-- ==== Proof.Context.lean ====
/-
  The precondition read at an index: every entry of the context vector is a real number.
-/
module

public import proofs.«01_k».proof.Proof.Gen.Pre_finite_context
public import Idealize.ShloMosaic.Lib.Pointwise
public import Idealize.ShloMosaic.Lib.ReduceAll

@[expose] public section

set_option maxRecDepth 16384

noncomputable section

namespace Cert.Pre_finite_context

open Idealize.ShloMosaic Cert.Pre_finite_context Cert.Pre_finite_context.Gen

/-- An extended real below infinity in absolute value is a real number. -/
theorem real_of_abs_lt {v : EReal} (h : max v (-v) < ⊤) : ∃ r : ℝ, v = (r : EReal) := by
  induction v using EReal.rec with
  | bot => simp at h
  | top => simp at h
  | coe r => exact ⟨r, rfl⟩

/-- Where `finite_context` holds, every entry of the context vector is a real number. -/
theorem context_real (x : FVec Ideal S64x2048x256 .f32) (w : FVec Ideal S256x256 .f32) (b c : FVec Ideal S256 .f32)
    (h : fn (F := Ideal) x w b c = fun _ => 1#1) (e : Fin 256) : ∃ r : ℝ, c (ix1 e) = (r : EReal) := by
  have h0 := congrFun h (fun a => a.elim0)
  have ht : Ideal.ofBits .f32 0x7F800000#32 = ⊤ := by simp [Ideal.ofBits, Ideal.ieee]
  have h1 := Host.reduce_andi_all _ _ _ _ _ h0 (ix1 e)
  pointwise at h1
  rw [ht] at h1
  refine real_of_abs_lt ?_
  by_contra hn
  rw [show FloatOps.absf (c (ix1 e)) = max (c (ix1 e)) (-c (ix1 e)) from rfl, decide_eq_false hn] at h1
  exact absurd h1 (by decide)

end Cert.Pre_finite_context

end
-- ==== Proof.lean ====
/-
  The proof of `Cert.Claim`. The three frames: the two kernels' are generated, the reference's is its run read at the
  arguments. The ideal pass rewrote nothing but what `preserves` states. The value claim: both results are functions
  of the same argument arrays — the kernel's the pooling with one division last (Proof/Array.lean), the reference's the
  softmax with its maximum shift (Proof/RefValue.lean) — and the two agree where the context vector is real
  (Proof/Softmax.lean, Proof/Context.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_context
public import proofs.«01_k».proof.Proof.Array
public import proofs.«01_k».proof.Proof.RefValue
public import proofs.«01_k».proof.Proof.Context
public import Idealize.ShloMosaic.Lib.Quiescent

@[expose] public section

set_option maxRecDepth 16384

noncomputable section

namespace Cert.Proof

open Idealize.ShloMosaic Idealize.ShloMosaic.TcCoe Idealize.SL.Sem Cert.AttentionPooling

/-- The kernel's frame. -/
theorem frame_kernel : Cert.quiescent_Kernel := fun m ρ _ => Cert.Kernel.Gen.frame m ρ

/-- The ideal kernel's frame, -/
theorem frame_ideal : Cert.quiescent_KernelIdeal := fun m ρ _ => Cert.KernelIdeal.Gen.frame m ρ

/-- and under the precondition, which it does not need. -/
theorem frame_ideal_pre : Cert.quiescent_KernelIdeal_pre_finite_context := fun m ρ _ => Cert.KernelIdeal.Gen.frame m ρ

/-- The reference's frame: its run read at the arguments; it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- and under the precondition, which it does not need. -/
theorem frame_reference_pre : Cert.quiescent_ReferenceIdeal_pre_finite_context := fun m ρ _ => frame_reference m ρ trivial

/-- The ideal kernel is the kernel as `preserves` states it. -/
theorem preserves : Cert.preserves_Kernel_KernelIdeal := trivial

/-- With a real context vector the kernel's function of the arguments is the reference's term of them. -/
theorem result_eq_term (x : Vec Ideal Cert.KernelIdeal.S64x2048x256 .f32) (w : Vec Ideal Cert.KernelIdeal.S256x256 .f32)
    (b c : Vec Ideal Cert.KernelIdeal.S256 .f32) (hc : ∀ e : Fin 256, ∃ r : ℝ, c (ix1 e) = (r : EReal)) :
    Cert.ReferenceIdeal.Pooling.term (F := Ideal) x w b c = Cert.KernelIdeal.Pooling.resultOf x w b c := by
  funext j
  idx_vars j
  rw [Subsingleton.elim j0 0, Cert.ReferenceIdeal.Pooling.term_apply]
  have hz (s : Fin 2048) := score_real (fun d : Fin 256 => x (ix3 j1 s d)) (fun e d : Fin 256 => w (ix2 e d)) (fun e => b (ix1 e)) (fun e => c (ix1 e)) hc
  obtain ⟨M, hM⟩ := fold_max_real _ hz
  rw [hM]
  exact (pooled_eq_softmaxPooled M _ _ hz).symm

/-- The value claim: from memories that agree on the arguments, the context vector finite, both programs end with the
    same result, and the arguments unchanged. -/
theorem algebraic : Cert.algebraic_KernelIdeal_ReferenceIdeal_pre_finite_context := by
  intro m ρ m' ρ' hpre hagree
  refine ⟨fun c => Cert.KernelIdeal.Pooling.result m c, Cert.KernelIdeal.Pooling.run m ρ, ?_⟩
  refine (θ_run Cert.ReferenceIdeal.defs _ _).mono (fun _ h c => ⟨(h c).1.trans ?_, (h c).2⟩) (Cert.ReferenceIdeal.Value.run (F := Ideal) m' ρ')
  obtain ⟨e0, e1, e2, e3⟩ := hagree c
  rw [e0, e1, e2, e3]
  exact result_eq_term _ _ _ _ (Cert.Pre_finite_context.context_real _ _ _ _ (hpre c))

theorem claim : Cert.Claim :=
  ⟨Cert.Kernel.Gen.facts, Cert.KernelIdeal.Gen.facts, Cert.ReferenceIdeal.Gen.facts, Cert.Pre_finite_context.Gen.facts,
    frame_kernel, frame_ideal, frame_ideal_pre, frame_reference, frame_reference_pre, preserves, algebraic⟩

end Cert.Proof

end
